-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x16 : Shape := ⟨2, ![128, 16]⟩
abbrev S128 : Shape := ⟨1, ![128]⟩
abbrev S2048 : Shape := ⟨1, ![2048]⟩
abbrev S16 : Shape := ⟨1, ![16]⟩
abbrev S_ : Shape := ⟨0, ![]⟩
abbrev S8 : Shape := ⟨1, ![8]⟩
abbrev S1 : Shape := ⟨1, ![1]⟩

abbrev nBuf : Table → Nat
  | .hbm => 5
  | .local .scVector .vmem => 3
  | _ => 0

abbrev bufTy : (tb : Table) → Fin (nBuf tb) → BufTy
  | .hbm, ⟨0, _⟩ => ⟨S128x16, .i32⟩
  | .hbm, ⟨1, _⟩ => ⟨S128, .i32⟩
  | .hbm, ⟨2, _⟩ => ⟨S2048, .i32⟩
  | .hbm, ⟨3, _⟩ => ⟨S2048, .i32⟩
  | .hbm, ⟨4, _⟩ => ⟨S128x16, .i32⟩
  | .local .scVector .vmem, ⟨0, _⟩ => ⟨S128, .i32⟩
  | .local .scVector .vmem, ⟨1, _⟩ => ⟨S16, .i32⟩
  | .local .scVector .vmem, ⟨2, _⟩ => ⟨S16, .i32⟩
  | _, _ => ⟨S128x16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c128_i32 : BitVec 32 := 128#32
  let v0 : BitVec 32 := Scalar.muli arg1 c128_i32
  ![v0.toNat]
def k0_off2 (i : grid0.Coords) : Fin 1 → Nat :=
  let arg1 : BitVec 32 := BitVec.ofNat 32 (i 1).val
  let c8_i32 : BitVec 32 := 8#32
  let v1 : BitVec 32 := Scalar.muli arg1 c8_i32
  ![v1.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x16 : Shape := ⟨2, ![128, 16]⟩
abbrev S128 : Shape := ⟨1, ![128]⟩
abbrev S1x1 : Shape := ⟨2, ![1, 1]⟩
abbrev S_ : Shape := ⟨0, ![]⟩
abbrev S16 : Shape := ⟨1, ![16]⟩
abbrev S1x16 : Shape := ⟨2, ![1, 16]⟩
abbrev S128x1 : Shape := ⟨2, ![128, 1]⟩

abbrev nBuf : Space → Nat
  | .hbm => 18
  | .vmem => 0
  | .smem => 0
  | _ => 0

abbrev bufTy : (tb : Table) → Fin (tcTables nBuf tb) → BufTy
  | .hbm, ⟨0, _⟩ => ⟨S128x16, .i32⟩
  | .hbm, ⟨1, _⟩ => ⟨S128, .i32⟩
  | .hbm, ⟨2, _⟩ => ⟨S1x1, .i32⟩
  | .hbm, ⟨3, _⟩ => ⟨S_, .i32⟩
  | .hbm, ⟨4, _⟩ => ⟨S_, .i32⟩
  | .hbm, ⟨5, _⟩ => ⟨S128x16, .i32⟩
  | .hbm, ⟨6, _⟩ => ⟨S128x16, .i1⟩
  | .hbm, ⟨7, _⟩ => ⟨S128x16, .i32⟩
  | .hbm, ⟨8, _⟩ => ⟨S128x16, .i32⟩
  | .hbm, ⟨9, _⟩ => ⟨S16, .i32⟩
  | .hbm, ⟨10, _⟩ => ⟨S1x16, .i32⟩
  | .hbm, ⟨11, _⟩ => ⟨S128x1, .i32⟩
  | .hbm, ⟨12, _⟩ => ⟨S128x16, .i32⟩
  | .hbm, ⟨13, _⟩ => ⟨S128x16, .i32⟩
  | .hbm, ⟨14, _⟩ => ⟨S128x16, .i1⟩
  | .hbm, ⟨15, _⟩ => ⟨S_, .i32⟩
  | .hbm, ⟨16, _⟩ => ⟨S128x16, .i32⟩
  | .hbm, ⟨17, _⟩ => ⟨S128x16, .i32⟩
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.Spec.lean ====
/-
  What the SparseCore call computes, as a function of the flat token list and the counts: element `16·i + j` of the
  result is token `(i, j)` — the first token in its place where it is the pad token 0 — if `j` is below row `i`'s count
  (as signed words), and 0 otherwise.
-/
module

public import proofs.«01_k».proof.Proof.Gen.KernelIdeal.Skeleton

@[expose] public section

noncomputable section

namespace Cert.Proof.Spec

open Cert.KernelIdeal Cert.KernelIdeal.Gen
open Idealize.ShloMosaic

/-- One element of the result: the token `t` at position `j` of a row of count `c`, the first token being `p`. -/
def keep (p t c : BitVec 32) (j : ℕ) : BitVec 32 :=
  if (BitVec.ofNat 32 j).slt c then (if t = 0#32 then p else t) else 0#32

/-- The flat index `n`. -/
abbrev tokIx (n : ℕ) (h : n < 2048) : S2048.Idx := fun a => match a with | 0 => ⟨n, h⟩
/-- The count's index `n`. -/
abbrev cntIx (n : ℕ) (h : n < 128) : S128.Idx := fun a => match a with | 0 => ⟨n, h⟩

/-- The flat result from the flat tokens and the counts. -/
def masked (tok : IVec S2048 32) (cnt : IVec S128 32) : IVec S2048 32 := fun y =>
  keep (tok (tokIx 0 (by decide))) (tok y) (cnt (cntIx ((y 0).val / 16) (by have h : (y 0).val < 2048 := (y 0).isLt; omega))) ((y 0).val % 16)

/-- The flat result at an index whose row and lane are known. -/
theorem masked_at (tok : IVec S2048 32) (cnt : IVec S128 32) {y : S2048.Idx} {n q r : ℕ} {hn : n < 2048} {hq : q < 128}
    (hy : y = tokIx n hn) (h₁ : n / 16 = q) (h₂ : n % 16 = r) :
    masked tok cnt y = keep (tok (tokIx 0 (by decide))) (tok (tokIx n hn)) (cnt (cntIx q hq)) r := by
  subst h₁ h₂ hy
  rfl

end Cert.Proof.Spec

end
-- ==== Proof.Rows.lean ====
/-
  One row of a task, by values: each of the kernel's eight row computations, printed eight times over with its own
  offset, is the same function of the first token, the row's count and the row's sixteen tokens.
-/
module

public import proofs.«01_k».proof.Proof.Spec
public import Idealize.ShloMosaic.Lib.Pipeline.Value

@[expose] public section

noncomputable section

namespace Cert.Proof.Rows

open Cert.KernelIdeal Cert.KernelIdeal.Gen Cert.Proof.Spec
open Idealize.ShloMosaic

variable {F : FTy → Type} [FloatOps F]

/-- Lane `n` of a vector of sixteen. -/
abbrev lane (n : ℕ) (h : n < 16) : S16.Idx := fun a => match a with | 0 => ⟨n, h⟩

/-- A row's result: its tokens `x`, its count `c`, the first token `p`. -/
def rowVal (p c : BitVec 32) (x : IVec S16 32) : IVec S16 32 := fun j => keep p (x j) c (j 0).val

/-- The two selects, as the one function of the words. -/
theorem select_eq_keep (p t c : BitVec 32) (j : ℕ) :
    Scalar.select (IntOp.cmpi .slt (BitVec.ofNat 32 j) c) (Scalar.select (IntOp.cmpi .eq t 0#32) p t) 0#32 = keep p t c j := by
  unfold keep Scalar.select IntOp.cmpi
  cases hs : (BitVec.ofNat 32 j).slt c <;> by_cases ht : t = 0#32
  · simp
  · simp
  · simp [ht]
  · simp [ht, beq_eq_false_iff_ne.mpr ht]

/-- Word `r` of a vector, as the kernel takes it. -/
theorem word_eq (r : ℕ) (hr : r < 16) (v : IVec S16 32) (h : S16.Slices ![r] S1) (h' : ∀ a, (![0] : Fin S1.rank → ℕ) a < S1.size a) :
    extractAt ![0] (extractStridedSlice S1 ![r] v h) h' = v (lane r hr) := by
  refine extractStridedSlice_apply _ v h _ (lane r hr) fun a => ?_
  match a with
  | 0 => rfl

/-- The row computation with its count taken from word `r` of the counts `n`, its pad replacement from word 0 of `v`. -/
theorem row_eq (r : ℕ) (hr : r < 16) (v n x : IVec S16 32) (h : S16.Slices ![r] S1) (h' : ∀ a, (![0] : Fin S1.rank → ℕ) a < S1.size a) :
    shapeCast S16 (select (cmpi .slt (iota .scVector S16 32 [0] iota_S16_d0_w32_scVector)
          (broadcast S16 (extractAt ![0] (extractStridedSlice S1 ![r] (k0_pay4 (F := F) n) h) h')))
        (select (cmpi .eq (shapeCast S16 x shapeCasts_S16_S16) (broadcast S16 0#32)) (k0_pay3 (F := F) v) (shapeCast S16 x shapeCasts_S16_S16)) k0_pay2)
      shapeCasts_S16_S16 = rowVal (v (lane 0 (by decide))) (n (lane r hr)) x := by
  have hn : k0_pay4 (F := F) n = n := shapeCast_self _ _
  have hv : k0_pay3 (F := F) v = broadcast S16 (v (lane 0 (by decide))) := by
    unfold k0_pay3
    simp only [shapeCast_self, word_eq 0 (by decide)]
  rw [hn, hv, word_eq r hr, shapeCast_self, shapeCast_self]
  funext j
  refine Eq.trans ?_ (select_eq_keep _ (x j) _ _)
  show Scalar.select (IntOp.cmpi .slt (BitVec.ofNat 32 (0 * 16 + (j 0).val)) _) _ 0#32 = _
  rw [Nat.zero_mul, Nat.zero_add]
  rfl

variable (v n x : IVec S16 32)

theorem pay_row0 : k0_pay6 (k0_pay5 (F := F) v n x) = rowVal (v (lane 0 (by decide))) (n (lane 0 (by decide))) x :=
  row_eq (F := F) 0 _ v n x _ inpos_S1_p0
theorem pay_row1 : k0_pay7 (F := F) (iota .scVector S16 32 [0] iota_S16_d0_w32_scVector) k0_pay2 (k0_pay3 (F := F) v) (k0_pay4 (F := F) n) x
    = rowVal (v (lane 0 (by decide))) (n (lane 1 (by decide))) x := row_eq (F := F) 1 _ v n x _ inpos_S1_p0
theorem pay_row2 : k0_pay8 (F := F) (iota .scVector S16 32 [0] iota_S16_d0_w32_scVector) k0_pay2 (k0_pay3 (F := F) v) (k0_pay4 (F := F) n) x
    = rowVal (v (lane 0 (by decide))) (n (lane 2 (by decide))) x := row_eq (F := F) 2 _ v n x _ inpos_S1_p0
theorem pay_row3 : k0_pay9 (F := F) (iota .scVector S16 32 [0] iota_S16_d0_w32_scVector) k0_pay2 (k0_pay3 (F := F) v) (k0_pay4 (F := F) n) x
    = rowVal (v (lane 0 (by decide))) (n (lane 3 (by decide))) x := row_eq (F := F) 3 _ v n x _ inpos_S1_p0
theorem pay_row4 : k0_pay11 (F := F) (iota .scVector S16 32 [0] iota_S16_d0_w32_scVector) k0_pay2 (k0_pay3 (F := F) v) (k0_pay10 (k0_pay4 (F := F) n)) x
    = rowVal (v (lane 0 (by decide))) (n (lane 4 (by decide))) x := row_eq (F := F) 4 _ v n x _ inpos_S1_p0
theorem pay_row5 : k0_pay12 (F := F) (iota .scVector S16 32 [0] iota_S16_d0_w32_scVector) k0_pay2 (k0_pay3 (F := F) v) (k0_pay4 (F := F) n) x
    = rowVal (v (lane 0 (by decide))) (n (lane 5 (by decide))) x := row_eq (F := F) 5 _ v n x _ inpos_S1_p0
theorem pay_row6 : k0_pay13 (F := F) (iota .scVector S16 32 [0] iota_S16_d0_w32_scVector) k0_pay2 (k0_pay3 (F := F) v) (k0_pay4 (F := F) n) x
    = rowVal (v (lane 0 (by decide))) (n (lane 6 (by decide))) x := row_eq (F := F) 6 _ v n x _ inpos_S1_p0
theorem pay_row7 : k0_pay1 (k0_pay14 (F := F) (iota .scVector S16 32 [0] iota_S16_d0_w32_scVector) k0_pay2 (k0_pay3 (F := F) v) (k0_pay4 (F := F) n) x)
    = rowVal (v (lane 0 (by decide))) (n (lane 7 (by decide))) x := row_eq (F := F) 7 _ v n x _ inpos_S1_p0

end Cert.Proof.Rows

end
-- ==== Proof.Tile.lean ====
/-
  One tile's task: it copies in its eight rows of tokens, the first row and its eight counts, masks the eight rows one
  after the other, and copies them out to its block of the flat result.
-/
module

public import proofs.«01_k».proof.Proof.Rows
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Tactic
public import Idealize.ShloMosaic.Lib.Writes

@[expose] public section

noncomputable section

namespace Cert.Proof.Tile

open Cert.KernelIdeal Cert.KernelIdeal.Gen Cert.Proof.Spec Cert.Proof.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The flat tokens, the counts and the flat result. -/
abbrev tLoc (d : Dev nD) : Loc nD τ sig := (SparseCore.T d).loc main_v0
abbrev cLoc (d : Dev nD) : Loc nD τ sig := (SparseCore.T d).loc main_arg1
abbrev oLoc (d : Dev nD) : Loc nD τ sig := (SparseCore.T d).loc main_v1

abbrev tV : Memref sig Kind.scVector Space.hbm S2048 EltTy.i32 := Memref.whole main_v0_scv
abbrev cV : Memref sig Kind.scVector Space.hbm S128 EltTy.i32 := Memref.whole main_arg1_scv
abbrev oV : Memref sig Kind.scVector Space.hbm S2048 EltTy.i32 := Memref.whole main_v1_scv
abbrev bV : Memref sig Kind.scVector Space.vmem S128 EltTy.i32 := Memref.whole cc0_scratch0
abbrev rV : Memref sig Kind.scVector Space.vmem S16 EltTy.i32 := Memref.whole cc0_scratch1
abbrev nV : Memref sig Kind.scVector Space.vmem S16 EltTy.i32 := Memref.whole cc0_scratch2

theorem odiv : 16 ∣ S2048.size 0 := ⟨128, rfl⟩
/-- Block `i` of the result: elements `128·i` to `128·i + 127`. -/
abbrev oblk (i : Fin 16) : Rect S2048 := Rect.part (s := S2048) (a₀ := 0) odiv i
abbrev oBlkSet (i : Fin 16) : Finset S2048.Idx := (oV.view.slice (oblk i)).set

/-- Task `i`'s share of what every task reads. -/
abbrev shr (i : Fin 16) : PosShare TreeShare := leaf 4 fullShare i

abbrev tShPts (d : Dev nD) (i : Fin 16) (t : Buf (Elt F) (tLoc d)) : sProp 𝕄 := tLoc d ↦{shr i} t
abbrev cShPts (d : Dev nD) (i : Fin 16) (c : Buf (Elt F) (cLoc d)) : sProp 𝕄 := cLoc d ↦{shr i} c
abbrev oBlkPts (d : Dev nD) (i : Fin 16) (f : Buf (Elt F) (oLoc d)) : sProp 𝕄 := oLoc d ↦[oBlkSet i]{fullShare} f

variable [FloatOps F]

/-! ## The task -/

section Task

variable (d : Dev nD) (L : grid0.Coords)

abbrev cL (L : grid0.Coords) : Fin τ.nSC := (L 0).castLE hcore0
abbrev sL (L : grid0.Coords) : Fin τ.nSub := (L 1).castLE hsub0
omit [FloatOps F] in
theorem bound_one : grid0.bound 1 = 16 := rfl
abbrev jL (L : grid0.Coords) : Fin 16 := Fin.cast bound_one (L 1)

abbrev oblkK (L : grid0.Coords) : Rect S2048 := Rect.unit (s := S2048) (k0_off1 L) S128.size (k0_off1_inb L)
/-- The result's block as the task addresses it. -/
abbrev oBlkK (L : grid0.Coords) : Memref sig .scVector .hbm S128 .i32 := oV.slice (oblkK L) (fun _ => rfl)

omit [FloatOps F] in
theorem oblkK_eq : oblkK L = oblk (jL L) := by
  unfold oblkK oblk Rect.part Rect.block
  congr 1 <;> funext a
  · rw [k0_off1_eq]
    match a with
    | 0 => simp [Shape.partIx, Shape.partSize]; omega
  · match a with
    | 0 => simp [Shape.partSize]
omit [FloatOps F] in
theorem set_oBlkK : (oBlkK L).view.set = oBlkSet (jL L) := by
  show (oV.view.slice (oblkK L)).set = (oV.view.slice (oblk (jL L))).set
  exact oblkK_eq L ▸ rfl
omit [FloatOps F] in
theorem pts_oBlkK (f : Buf (Elt F) (oLoc d)) :
    ((oBlkK L).view.loc (V d (cL L) (sL L)) ↦[(oBlkK L).view.set]{fullShare} f : sProp 𝕄) = oLoc d ↦[oBlkSet (jL L)]{fullShare} f := by
  rw [set_oBlkK]

abbrev semA (d : Dev nD) (c : Fin τ.nSC) (i : Fin τ.nSub) : GSem nD τ sig := (V d c i, .dma cc0_scoped0.sem)
abbrev semB (d : Dev nD) (c : Fin τ.nSC) (i : Fin τ.nSub) : GSem nD τ sig := (V d c i, .dma cc0_scoped1.sem)
abbrev semC (d : Dev nD) (c : Fin τ.nSC) (i : Fin τ.nSub) : GSem nD τ sig := (V d c i, .dma cc0_scoped2.sem)
abbrev semD (d : Dev nD) (c : Fin τ.nSC) (i : Fin τ.nSub) : GSem nD τ sig := (V d c i, .dma cc0_scoped3.sem)

omit [FloatOps F] in
/-- A DMA semaphore of a tile is one of the tile's own. -/
theorem mem_own (c : Fin τ.nSC) (i : Fin τ.nSub) (s : DmaSem sig) : ((V d c i, .dma s) : GSem nD τ sig) ∈ ownCells (V d c i) :=
  (mem_ownCells (g := ((V d c i, .dma s) : GSem nD τ sig))).mpr ⟨rfl, rfl⟩

omit [FloatOps F] in
/-- Two different DMA semaphores of a tile are different counters. -/
theorem sem_ne (c : Fin τ.nSC) (i : Fin τ.nSub) {s s' : DmaSem sig} (h : s ≠ s') : ((V d c i, .dma s) : GSem nD τ sig) ≠ (V d c i, .dma s') :=
  fun e => h (SemLoc.dma.inj (Prod.mk.inj e).2)

omit [FloatOps F] in
/-- The tile's counters are the four that its copies use, and the rest. -/
theorem ownSems0_V :
    (ownSems0 (V d (cL L) (sL L)) : sProp 𝕄)
      = iprop(semVal (semA d (cL L) (sL L)) 0 ∗ semVal (semB d (cL L) (sL L)) 0 ∗ semVal (semC d (cL L) (sL L)) 0 ∗ semVal (semD d (cL L) (sL L)) 0
          ∗ bigSep (((((ownCells (V d (cL L) (sL L))).erase (semA d (cL L) (sL L))).erase (semB d (cL L) (sL L))).erase (semC d (cL L) (sL L))).erase
              (semD d (cL L) (sL L))) fun g => semVal g 0) := by
  have hBA := sem_ne d (cL L) (sL L) (show cc0_scoped1.sem ≠ cc0_scoped0.sem by decide)
  have hCA := sem_ne d (cL L) (sL L) (show cc0_scoped2.sem ≠ cc0_scoped0.sem by decide)
  have hCB := sem_ne d (cL L) (sL L) (show cc0_scoped2.sem ≠ cc0_scoped1.sem by decide)
  have hDA := sem_ne d (cL L) (sL L) (show cc0_scoped3.sem ≠ cc0_scoped0.sem by decide)
  have hDB := sem_ne d (cL L) (sL L) (show cc0_scoped3.sem ≠ cc0_scoped1.sem by decide)
  have hDC := sem_ne d (cL L) (sL L) (show cc0_scoped3.sem ≠ cc0_scoped2.sem by decide)
  unfold SparseCore.Cfg.ownSems0
  rw [SparseCore.bigSep_erase' (mem_own d _ _ _),
    SparseCore.bigSep_erase' (Finset.mem_erase.mpr ⟨hBA, mem_own d _ _ _⟩),
    SparseCore.bigSep_erase' (Finset.mem_erase.mpr ⟨hCB, Finset.mem_erase.mpr ⟨hCA, mem_own d _ _ _⟩⟩),
    SparseCore.bigSep_erase' (Finset.mem_erase.mpr ⟨hDC, Finset.mem_erase.mpr ⟨hDB, Finset.mem_erase.mpr ⟨hDA, mem_own d _ _ _⟩⟩⟩)]

omit [FloatOps F] in
/-- The tile's buffers are its three scratches, at some contents, and the rest. -/
theorem ownBufs_V :
    (ownBufs (V d (cL L) (sL L)) : sProp 𝕄)
      = iprop((∃ f, (V d (cL L) (sL L)).loc cc0_scratch0 ↦{fullShare} f) ∗ (∃ f, (V d (cL L) (sL L)).loc cc0_scratch1 ↦{fullShare} f)
          ∗ (∃ f, (V d (cL L) (sL L)).loc cc0_scratch2 ↦{fullShare} f)
          ∗ bigSep ((((ownRefs (τ := τ) (.scVector (cL L) (sL L))).erase ((Proc.scVector (cL L) (sL L)).devRef cc0_scratch0)).erase
              ((Proc.scVector (cL L) (sL L)).devRef cc0_scratch1)).erase ((Proc.scVector (cL L) (sL L)).devRef cc0_scratch2))
              fun b => iprop(∃ f, ((d, b) : Loc nD τ sig) ↦{fullShare} f)) := by
  have own : ∀ b : Ref sig .scVector, ((Proc.scVector (cL L) (sL L)).devRef b).owner = .proc (.scVector (cL L) (sL L)) →
      (Proc.scVector (cL L) (sL L)).devRef b ∈ ownRefs (τ := τ) (.scVector (cL L) (sL L)) := fun b h =>
    SparseCore.Cfg.mem_ownRefs_of_owner (p := Proc.scVector (cL L) (sL L)) (b := (Proc.scVector (cL L) (sL L)).devRef b) h
  have ne : ∀ {b b' : Ref sig .scVector}, b ≠ b' → (Proc.scVector (cL L) (sL L)).devRef b ≠ (Proc.scVector (cL L) (sL L)).devRef b' :=
    fun h e => h (Proc.devRef_injective _ e)
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩)]

variable (t : Buf (Elt F) (tLoc d)) (c : Buf (Elt F) (cLoc d)) (o₀ : Buf (Elt F) (oLoc d))

/-! ### What the loads of a row, of the first token and of the counts read -/

omit [FloatOps F] in
theorem first_read (fr : Buf (Elt F) ((V d (cL L) (sL L)).loc cc0_scratch1)) (i₁ i₂ i₃) :
    View.readAt (Elt F) rV.view (Rect.unit ![0] S16.size i₁).toLoadRect
        (View.write (Elt F) rV.view fr
          (ReadAs.same.apply (View.read (Elt F) (tV.slice (Rect.unit ![0] S16.size i₂) i₃).view t)) Finset.univ) (lane 0 (by decide))
      = t (tokIx 0 (by decide)) := by
  rw [View.readAt_rect]
  show View.read (Elt F) rV.view _ ((Rect.unit ![0] S16.size i₁).emb (lane 0 (by decide))) = _
  rw [View.read_write_univ]
  refine congrArg t (funext fun a => ?_)
  match a with
  | 0 => rfl

omit [FloatOps F] in
theorem cnt_read (fn : Buf (Elt F) ((V d (cL L) (sL L)).loc cc0_scratch2)) (r : ℕ) (hr : r < 8) (i₁ i₂ i₃ i₄) :
    View.readAt (Elt F) nV.view (Rect.unit ![0] S16.size i₁).toLoadRect
        (nV.view.writes (Elt F) fn [⟨Rect.unit ![0] S8.size i₂,
          ReadAs.same.apply (View.read (Elt F) (cV.slice (Rect.unit (k0_off2 L) S8.size i₃) i₄).view c)⟩]) (lane r (by omega))
      = c (cntIx (8 * (L 1).val + r) (by have h : (L 1).val < 16 := (L 1).isLt; omega)) := by
  rw [View.readAt_rect]
  show View.read (Elt F) nV.view _ ((Rect.unit ![0] S16.size i₁).emb (lane r (by omega))) = _
  rw [View.read_writes_cons_hit_of_coords nV.view fn _ _ [] (fun a => match a with | 0 => ⟨r, hr⟩) _ (fun a => by
    match a with
    | 0 => rfl)]
  refine congrArg c (funext fun a => ?_)
  match a with
  | 0 => exact Fin.ext (by
    show k0_off2 L 0 + 1 * r = 8 * (L 1).val + r
    rw [k0_off2_eq]
    simp)

omit [FloatOps F] in
theorem tok_read (fb : Buf (Elt F) ((V d (cL L) (sL L)).loc cc0_scratch0)) (r : ℕ) (hr : r < 8) (i₁ i₂ i₃) (x : S16.Idx) :
    View.readAt (Elt F) bV.view (Rect.unit (s := S128) ![16 * r] S16.size i₁).toLoadRect
        (View.write (Elt F) bV.view fb
          (ReadAs.same.apply (View.read (Elt F) (tV.slice (Rect.unit (k0_off1 L) S128.size i₂) i₃).view t)) Finset.univ) x
      = t (tokIx (128 * (L 1).val + (16 * r + (x 0).val)) (by have h : (L 1).val < 16 := (L 1).isLt; have h' : (x 0).val < 16 := (x 0).isLt; omega)) := by
  rw [View.readAt_rect]
  show View.read (Elt F) bV.view _ ((Rect.unit (s := S128) ![16 * r] S16.size i₁).emb x) = _
  rw [View.read_write_univ]
  refine congrArg t (funext fun a => ?_)
  match a with
  | 0 => exact Fin.ext (by
    show k0_off1 L 0 + 1 * (16 * r + 1 * (x 0).val) = 128 * (L 1).val + (16 * r + (x 0).val)
    rw [k0_off1_eq]
    simp)

/-- The masked tokens of the task's block, as its scratch holds them. -/
def blockVal (y : S128.Idx) : Elt F .i32 :=
  masked t c (tokIx (128 * (L 1).val + (y 0).val) (by have h : (L 1).val < 16 := (L 1).isLt; have h' : (y 0).val < 128 := (y 0).isLt; omega))

omit [FloatOps F] in
/-- Row `r`'s values, from what the task loads, are the block's there. -/
theorem row_block (fb : Buf (Elt F) ((V d (cL L) (sL L)).loc cc0_scratch0)) (fr : Buf (Elt F) ((V d (cL L) (sL L)).loc cc0_scratch1))
    (fn : Buf (Elt F) ((V d (cL L) (sL L)).loc cc0_scratch2)) (r : ℕ) (hr : r < 8) (i₁ i₂ i₃ i₄ i₅ i₆ i₇ i₈ i₉ i₁₀) (j : S16.Idx) :
    rowVal
        (View.readAt (Elt F) rV.view (Rect.unit ![0] S16.size i₁).toLoadRect
          (View.write (Elt F) rV.view fr
            (ReadAs.same.apply (View.read (Elt F) (tV.slice (Rect.unit ![0] S16.size i₂) i₃).view t)) Finset.univ) (lane 0 (by decide)))
        (View.readAt (Elt F) nV.view (Rect.unit ![0] S16.size i₄).toLoadRect
          (nV.view.writes (Elt F) fn [⟨Rect.unit ![0] S8.size i₅,
            ReadAs.same.apply (View.read (Elt F) (cV.slice (Rect.unit (k0_off2 L) S8.size i₆) i₇).view c)⟩]) (lane r (by omega)))
        (View.readAt (Elt F) bV.view (Rect.unit (s := S128) ![16 * r] S16.size i₈).toLoadRect
          (View.write (Elt F) bV.view fb
            (ReadAs.same.apply (View.read (Elt F) (tV.slice (Rect.unit (k0_off1 L) S128.size i₉) i₁₀).view t)) Finset.univ)) j
      = blockVal (F := F) d L t c ((Rect.unit (s := S128) ![16 * r] S16.size i₈).emb j) := by
  unfold rowVal
  rw [first_read d L t fr, cnt_read d L c fn r hr, tok_read d L t fb r hr]
  have h' : (j 0).val < 16 := (j 0).isLt
  have e : (((Rect.unit (s := S128) ![16 * r] S16.size i₈).emb j) 0).val = 16 * r + (j 0).val := by
    show 16 * r + 1 * (j 0).val = _
    omega
  exact (masked_at t c (funext fun a => match a with | 0 => Fin.ext (congrArg (128 * (L 1).val + ·) e)) (by omega) (by omega)).symm

omit [FloatOps F] in
/-- The block written whole with the masked tokens is the result's block. -/
theorem block_written (f : S128.Idx → Elt F .i32) (hf : ∀ y, f y = blockVal d L t c y) :
    ∀ i ∈ oBlkSet (jL L), (oBlkK L).view.writes (Elt F) o₀ [⟨Rect.whole S128, f⟩] i = masked t c i := by
  intro i hi
  rw [← set_oBlkK] at hi
  obtain ⟨y, -, rfl⟩ := Finset.mem_map.mp hi
  have h := congrFun (View.read_writes_whole (oBlkK L).view o₀ f) y
  rw [View.read_apply] at h
  refine h.trans ((hf y).trans (congrArg (masked t c) (funext fun a => ?_)))
  match a with
  | 0 => exact Fin.ext (by
    show 128 * (L 1).val + (y 0).val = k0_off1 L 0 + 1 * (y 0).val
    rw [k0_off1_eq]
    simp)

set_option maxHeartbeats 4000000 in
/-- The task on vector subcore `(L 0, L 1)`: it leaves its block of the result at the masked tokens' block. -/
theorem tile_body (hF : (K (F := F)).Facts) (O : CellTallies nD τ sig (HIx 1)) (W : Waits sig (HIx 1)) (hO : ∀ g, O g none = 0) :
    iprop(levAts (K (F := F)).L (K (F := F)).lev ∗ emp
        ∗ (tShPts d (jL L) t ∗ cShPts d (jL L) c ∗ oBlkPts d (jL L) o₀)
        ∗ scopedBufs (V d (cL L) (sL L)) ∗ scopedSems0 (V d (cL L) (sL L)) ∗ owes (V d (cL L) (sL L)) O W)
      ⊢ wp frame (wpE (defs₀ (F := F)) 𝒱₀ (V d (cL L) (sL L)) none) Set.univ
          (cc0__masked_copy_sc L tV (Memref.isWhole_whole _) cV (Memref.isWhole_whole _) oV (Memref.isWhole_whole _)
            bV (Memref.isWhole_whole _) rV (Memref.isWhole_whole _) nV (Memref.isWhole_whole _) cc0_scoped0 cc0_scoped1 cc0_scoped2 cc0_scoped3)
          fun _ => iprop((tShPts d (jL L) t ∗ cShPts d (jL L) c ∗ oBlkPts d (jL L) (masked t c))
            ∗ scopedBufs (V d (cL L) (sL L)) ∗ scopedSems0 (V d (cL L) (sL L))
            ∗ ∃ W', ⌜∀ p ∈ W', p ∈ W ∨ p.2 = none⌝ ∗ owes (V d (cL L) (sL L)) O W') := by
  rw [cc0__masked_copy_sc_eq_skeleton]
  unfold cc0__masked_copy_sc_skel
  simp only [k0_part1_eq_skeleton, k0_part2_eq_skeleton, k0_part3_eq_skeleton]
  unfold k0_part1_skel k0_part2_skel k0_part3_skel
  rw [(K (F := F)).scopedBufs_V hF d (cL L) (sL L), SparseCore.Cfg.scopedSems0_V (Val := Elt F) d (cL L) (sL L), ownSems0_V, ownBufs_V]
  iintro ⟨#Hlv, -, ⟨Ht, Hc, Ho⟩, ⟨⟨%fb, Hb⟩, ⟨%fr, Hr⟩, ⟨%fn, Hn⟩, Hbufs⟩, ⟨HsemA, HsemB, HsemC, HsemD, Hsems⟩, HO⟩
  ihave Hmw := (show levAts (K (F := F)).L (K (F := F)).lev ⊢ Transfers.MayWaits (V d (cL L) (sL L)) (default : HIx 1) O from
    (K (F := F)).mayWaits_none (thr := V d (cL L) (sL L)) hO) $$ Hlv
  ihave Ho' := (Entails.of_eq (pts_oBlkK (F := F) d L _).symm) $$ Ho
  ihave Ht' := (Entails.of_eq (show (tLoc d ↦{shr (jL L)} t : sProp 𝕄) = (tV.view.loc (V d (cL L) (sL L)) ↦{shr (jL L)} t) from rfl)) $$ Ht
  ihave Hc' := (Entails.of_eq (show (cLoc d ↦{shr (jL L)} c : sProp 𝕄) = (cV.view.loc (V d (cL L) (sL L)) ↦{shr (jL L)} c) from rfl)) $$ Hc
  ihave Hb' := (Entails.of_eq (show ((V d (cL L) (sL L)).loc cc0_scratch0 ↦{fullShare} fb : sProp 𝕄) = (bV.view.loc (V d (cL L) (sL L)) ↦{fullShare} fb) from rfl)) $$ Hb
  ihave Hr' := (Entails.of_eq (show ((V d (cL L) (sL L)).loc cc0_scratch1 ↦{fullShare} fr : sProp 𝕄) = (rV.view.loc (V d (cL L) (sL L)) ↦{fullShare} fr) from rfl)) $$ Hr
  ihave Hn' := (Entails.of_eq (show ((V d (cL L) (sL L)).loc cc0_scratch2 ↦{fullShare} fn : sProp 𝕄) = (nV.view.loc (V d (cL L) (sL L)) ↦{fullShare} fn) from rfl)) $$ Hn
  sl_exec
  sl_step
  have hval : ∀ i ∈ oBlkSet (jL L), (oBlkK L).view.writes (Elt F) o₀ [⟨Rect.whole S128, tile_body.sl.dma26 d L t c fb fr fn⟩] i = masked t c i := by
    refine block_written d L t c o₀ _ fun y => ?_
    show View.read (Elt F) bV.view _ y = _
    refine View.read_writes_apply_of_pieces bV.view _ _ _ ?_ y ?_
    · sl_unfold_run_names
      simp only [List.forall_mem_cons]
      exact ⟨
        fun x => (congrFun (pay_row7 (F := F) _ _ _) x).trans (row_block d L t c fb fr fn 7 (by decide) _ _ (fun _ => rfl) _ _ _ (fun _ => rfl) _ _ (fun _ => rfl) x),
        fun x => (congrFun (pay_row6 (F := F) _ _ _) x).trans (row_block d L t c fb fr fn 6 (by decide) _ _ (fun _ => rfl) _ _ _ (fun _ => rfl) _ _ (fun _ => rfl) x),
        fun x => (congrFun (pay_row5 (F := F) _ _ _) x).trans (row_block d L t c fb fr fn 5 (by decide) _ _ (fun _ => rfl) _ _ _ (fun _ => rfl) _ _ (fun _ => rfl) x),
        fun x => (congrFun (pay_row4 (F := F) _ _ _) x).trans (row_block d L t c fb fr fn 4 (by decide) _ _ (fun _ => rfl) _ _ _ (fun _ => rfl) _ _ (fun _ => rfl) x),
        fun x => (congrFun (pay_row3 (F := F) _ _ _) x).trans (row_block d L t c fb fr fn 3 (by decide) _ _ (fun _ => rfl) _ _ _ (fun _ => rfl) _ _ (fun _ => rfl) x),
        fun x => (congrFun (pay_row2 (F := F) _ _ _) x).trans (row_block d L t c fb fr fn 2 (by decide) _ _ (fun _ => rfl) _ _ _ (fun _ => rfl) _ _ (fun _ => rfl) x),
        fun x => (congrFun (pay_row1 (F := F) _ _ _) x).trans (row_block d L t c fb fr fn 1 (by decide) _ _ (fun _ => rfl) _ _ _ (fun _ => rfl) _ _ (fun _ => rfl) x),
        fun x => (congrFun (pay_row0 (F := F) _ _ _) x).trans (row_block d L t c fb fr fn 0 (by decide) _ _ (fun _ => rfl) _ _ _ (fun _ => rfl) _ _ (fun _ => rfl) x),
        fun _ h => absurd h List.not_mem_nil⟩
    · exact View.cover_of_tiled _ ![16] (by rfl) y
  ihave Ho := (Entails.of_eq (pts_oBlkK (F := F) d L _)) $$ Ho'
  ihave Ho := (Entails.of_eq (pointsTo_congr hval)) $$ Ho
  iframe Ht' Hc' Ho
  isplitl [Hb' Hr' Hn' Hbufs]
  · isplitl [Hb']
    · iexists _; iexact Hb'
    isplitl [Hr']
    · iexists _; iexact Hr'
    isplitl [Hn']
    · iexists _; iexact Hn'
    iexact Hbufs
  iframe HsemA HsemB HsemC HsemD Hsems
  iexists _
  isplitr
  rotate_left
  · iexact HO
  ipureintro
  intro q hq
  simp only [Finset.mem_insert] at hq
  rcases hq with rfl | rfl | rfl | rfl | hq
  · exact .inr rfl
  · exact .inr rfl
  · exact .inr rfl
  · exact .inr rfl
  · exact .inl hq

end Task

end Cert.Proof.Tile

end
-- ==== Proof.Launch.lean ====
/-
  The launch: what the handshakes carry, how the call's arrays are dealt to the sixteen tasks and joined again, @main
  around the call, and the program's run. The text is the same at words and at exact values, so the run is stated once,
  at any float values.
-/
module

public import proofs.«01_k».proof.Proof.Tile

@[expose] public section

noncomputable section

namespace Cert.Proof.Launch

open Cert.KernelIdeal Cert.KernelIdeal.Gen Cert.Proof.Spec Cert.Proof.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.ShareLeaves (leaf pointsTo_leaves)

variable {F : FTy → Type} [FloatOps F] (m : (ℓ : Loc nD τ sig) → Buf (Elt F) ℓ) (ρ : Dev nD → PrngReg)

local notation "𝕄" => MT nD τ sig (HIx 1) (Elt F) ℕ UU ℕ

/-- The tokens as given, and the result as returned. -/
abbrev aLoc (d : Dev nD) : Loc nD τ sig := (SparseCore.T d).loc main_arg0
abbrev rLoc (d : Dev nD) : Loc nD τ sig := (SparseCore.T d).loc main_v2

/-- The flat tokens, the flat result, and the result. -/
def tok (d : Dev nD) : Buf (Elt F) (tLoc d) := shapeCast S2048 (m (aLoc d)) shapeCasts_S128x16_S2048
def out (d : Dev nD) : Buf (Elt F) (oLoc d) := masked (tok m d) (m (cLoc d))
def res (d : Dev nD) : Buf (Elt F) (rLoc d) := shapeCast S128x16 (out m d) shapeCasts_S2048_S128x16

/-! ## What the handshakes carry -/

abbrev tPts (d : Dev nD) : sProp 𝕄 := tLoc d ↦{fullShare} tok m d
abbrev cPts (d : Dev nD) : sProp 𝕄 := cLoc d ↦{fullShare} m (cLoc d)
abbrev oPts (d : Dev nD) (f : Buf (Elt F) (oLoc d)) : sProp 𝕄 := oLoc d ↦{fullShare} f

/-- Whole: the flat tokens and the counts, with the flat result at `f`. -/
abbrev whole (d : Dev nD) (f : Buf (Elt F) (oLoc d)) : sProp 𝕄 := iprop(tPts m d ∗ cPts m d ∗ oPts d f)
/-- Task `i`'s: its shares of the flat tokens and of the counts, with its block of the flat result at `f`'s. -/
abbrev task (d : Dev nD) (i : Fin 16) (f : Buf (Elt F) (oLoc d)) : sProp 𝕄 :=
  iprop(tShPts d i (tok m d) ∗ cShPts d i (m (cLoc d)) ∗ oBlkPts d i f)

/-- The one call takes the three arrays whole and brings them back with the masked tokens in the result; so does each
    task with its part. -/
def P : (K (F := F)).Pay (nD := nD) (Val := Elt F) (Name := ℕ) (U := UU) where
  st := fun q d _ => match q with | 0 => whole m d (m (oLoc d))
  dn := fun q d _ => match q with | 0 => whole m d (out m d)
  go := fun q d _ i => match q with | 0 => task m d (Fin.cast nSub_zero i) (m (oLoc d))
  td := fun q d _ i => match q with | 0 => task m d (Fin.cast nSub_zero i) (out m d)
  x := fun _ _ => iprop(emp)

instance P_storable : (P (F := F) m).IsStorable where
  st q d _ := match q with | 0 => (inferInstance : BI.Storable (upEmb : UEmb _ 𝕄) (whole m d (m (oLoc d))))
  dn q d _ := match q with | 0 => (inferInstance : BI.Storable (upEmb : UEmb _ 𝕄) (whole m d (out m d)))
  go q d _ i := match q with | 0 => (inferInstance : BI.Storable (upEmb : UEmb _ 𝕄) (task m d (Fin.cast nSub_zero i) (m (oLoc d))))
  td q d _ i := match q with | 0 => (inferInstance : BI.Storable (upEmb : UEmb _ 𝕄) (task m d (Fin.cast nSub_zero i) (out m d)))

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__masked_copy_sc (coordsV c s)
          tV (Memref.isWhole_whole _) cV (Memref.isWhole_whole _) oV (Memref.isWhole_whole _)
          bV (Memref.isWhole_whole _) rV (Memref.isWhole_whole _) nV (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tok m d) (m (cLoc d)) (m (oLoc d)) hF O W hO).trans (wp_mono frame _ _ fun _ => obl_post)

/-! ## The blocks split and join; the shares -/

omit [FloatOps F] in
theorem oBlkSet_eq (i : Fin 16) : oBlkSet i = (oblk i).set := by
  show ((View.whole (main_v1_scv : Ref sig .scVector)).slice (oblk i)).set = _
  rw [View.set_slice]; exact Finset.map_refl

omit [FloatOps F] in
theorem oPts_blocks (d : Dev nD) (f : Buf (Elt F) (oLoc d)) : (oPts d f : sProp 𝕄) = bigSep Finset.univ fun i : Fin 16 => oBlkPts d i f := by
  have hd : ∀ i ∈ (Finset.univ : Finset (Fin 16)), ∀ j ∈ (Finset.univ : Finset (Fin 16)), i ≠ j → Disjoint (oBlkSet i) (oBlkSet j) :=
    fun i _ j _ h => by rw [oBlkSet_eq, oBlkSet_eq]; exact Rect.part_disjoint odiv h
  have hc : (Finset.univ : Finset (Fin 16)).biUnion oBlkSet = Finset.univ :=
    (Finset.biUnion_congr rfl fun i _ => oBlkSet_eq i).trans (Rect.biUnion_part odiv)
  unfold oPts oBlkPts
  rw [← pointsTo_biUnion Finset.univ (ℓ := oLoc d) oBlkSet hd, hc]
  try rfl

/-- The three arrays whole are the sixteen tasks' parts of them. -/
theorem whole_eq_tasks (d : Dev nD) (f : Buf (Elt F) (oLoc d)) :
    (whole m d f : sProp 𝕄) = bigSep Finset.univ fun i : Fin ((K (F := F)).nSub 0) => task m d (Fin.cast nSub_zero i) f := by
  rw [show (bigSep Finset.univ fun i : Fin ((K (F := F)).nSub 0) => task m d (Fin.cast nSub_zero i) f) = bigSep Finset.univ fun i : Fin 16 => task m d i f from
    bigSep_congr fun _ _ => congrArg (fun i => task m d i f) (Fin.ext rfl)]
  rw [bigSep_sep', bigSep_sep', ← oPts_blocks]
  unfold whole tPts cPts
  rw [pointsTo_leaves Finset.univ (tok m d) 4 fullShare, pointsTo_leaves Finset.univ (m (cLoc d)) 4 fullShare]
  rfl

theorem vecSplit : (K (F := F)).VecSplit' (P m) 0 := by
  intro d c
  show whole m d (m (oLoc d)) ⊢ |={Set.univ}=> iprop(
      (bigSep Finset.univ fun i : Fin ((K (F := F)).nSub 0) => task m d (Fin.cast nSub_zero i) (m (oLoc d)))
      ∗ ((bigSep Finset.univ fun i : Fin ((K (F := F)).nSub 0) => task m d (Fin.cast nSub_zero i) (out m d)) -∗ whole m d (out m d)))
  rw [whole_eq_tasks m d (m (oLoc d)), whole_eq_tasks m d (out m d)]
  iintro H; imodintro
  isplitl [H]; · iexact H
  iintro H; iexact H

/-! ## The launch element of the ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

abbrev a' : DevRef τ sig := Proc.devRef .tc (main_arg0 : Ref sig .tc)
abbrev c' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The flattening before the call, and the reshape of the flat result after it. -/
abbrev opIn : HloOp τ sig (Elt F) := StableHlo.reshape main_arg0 main_v0 (rfl : (.i32 : EltTy) = .i32) shapeCasts_S128x16_S2048
abbrev opOut : HloOp τ sig (Elt F) := StableHlo.reshape main_v1 main_v2 (rfl : (.i32 : EltTy) = .i32) shapeCasts_S2048_S128x16

/-- The TensorCore's arrays. -/
abbrev arrs : Finset (DevRef τ sig) := {a', c', t', o', r'}

omit [FloatOps F] in
theorem held_arrs (d : Dev nD) (W : Valuation τ sig (Elt F)) :
    (held (T d) arrs W : sProp 𝕄)
      = iprop((aLoc d ↦{fullShare} W a') ∗ (cLoc d ↦{fullShare} W c') ∗ (tLoc d ↦{fullShare} W t') ∗ (oLoc d ↦{fullShare} W o') ∗ rLoc d ↦{fullShare} W r') := by
  unfold held arrs
  rw [SparseCore.bigSep_insert' (by decide), SparseCore.bigSep_insert' (by decide), SparseCore.bigSep_insert' (by decide),
    SparseCore.bigSep_insert' (by decide), bigSep_singleton]

/-- The arrays' contents at the launch, after the flattening, and after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (out m d)

omit [FloatOps F] in
theorem unscoped_held (d : Dev nD) : (unscopedBufs d (fun b => m ((SparseCore.T d).loc b)) : sProp 𝕄) = held (T d) arrs (V0 m d) := by
  rw [held_arrs]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

omit [FloatOps F] in
theorem V1_of_ne (d : Dev nD) {b : DevRef τ sig} (h : b ∉ ({t'} : Finset (DevRef τ sig))) : V1 m d b = m (d, b) :=
  (opIn (F := F)).result_of_not_mem _ h
omit [FloatOps F] in
theorem V1_t (d : Dev nD) : V1 m d t' = tok m d := by
  unfold V1
  exact StableHlo.reshape_result main_arg0 main_v0 rfl shapeCasts_S128x16_S2048 _ _ (V0 m d)
theorem V2_of_ne (d : Dev nD) {b : DevRef τ sig} (h : b ≠ o') : V2 m d b = V1 m d b := Function.update_of_ne h _ _
theorem V2_o (d : Dev nD) : V2 m d o' = out m d := Function.update_self _ _ _

/-- The arrays before the call. -/
theorem held_V1 (d : Dev nD) :
    (held (T d) arrs ((opIn (F := F)).result (V0 m d)) : sProp 𝕄)
      = iprop((aLoc d ↦{fullShare} m (aLoc d)) ∗ cPts m d ∗ tPts m d ∗ oPts d (m (oLoc d)) ∗ rLoc d ↦{fullShare} m (rLoc d)) := by
  show held (SparseCore.T d) arrs (V1 m d) = _
  rw [held_arrs, V1_t, V1_of_ne m d (b := a') (by decide), V1_of_ne m d (b := c') (by decide), V1_of_ne m d (b := o') (by decide), V1_of_ne m d (b := r') (by decide)]

/-- The arrays after the call. -/
theorem held_V2 (d : Dev nD) :
    (held (T d) arrs (V2 m d) : sProp 𝕄)
      = iprop((aLoc d ↦{fullShare} m (aLoc d)) ∗ cPts m d ∗ tPts m d ∗ oPts d (out m d) ∗ rLoc d ↦{fullShare} m (rLoc d)) := by
  rw [held_arrs, V2_o, V2_of_ne m d (b := a') (by decide), V2_of_ne m d (b := c') (by decide), V2_of_ne m d (b := t') (by decide), V2_of_ne m d (b := r') (by decide),
    V1_t, V1_of_ne m d (b := a') (by decide), V1_of_ne m d (b := c') (by decide), V1_of_ne m d (b := r') (by decide)]

/-- What @main leaves the claims: the tokens and the counts as given, the result. -/
abbrev FIN (d : Dev nD) : sProp 𝕄 := iprop((aLoc d ↦{fullShare} m (aLoc d)) ∗ cPts m d ∗ rLoc d ↦{fullShare} res m d)

/-- The arrays at the end. -/
theorem held_end (d : Dev nD) : (held (T d) arrs ((opOut (F := F)).result (V2 m d)) : sProp 𝕄) ⊢ FIN m d := by
  have hr : (opOut (F := F)).result (V2 m d) r' = res m d :=
    (StableHlo.reshape_result main_v1 main_v2 rfl shapeCasts_S2048_S128x16 _ _ (V2 m d)).trans (by rw [show V2 m d (Proc.devRef .tc main_v1) = out m d from V2_o m d]; rfl)
  have hk : ∀ b : DevRef τ sig, b ∉ ({r'} : Finset (DevRef τ sig)) → b ≠ o' → b ∉ ({t'} : Finset (DevRef τ sig)) →
      (opOut (F := F)).result (V2 m d) b = m (d, b) := fun b h₁ h₂ h₃ =>
    ((opOut (F := F)).result_of_not_mem _ h₁).trans ((V2_of_ne m d h₂).trans (V1_of_ne m d h₃))
  rw [held_arrs, hr, hk a' (by decide) (by decide) (by decide), hk c' (by decide) (by decide) (by decide)]
  iintro ⟨Ha, Hc, -, -, Hr⟩
  iframe Ha Hc Hr

theorem st0_eq (d : Dev nD) : (bigSep Finset.univ fun c : Fin ((K (F := F)).nCore 0) => (P m).st 0 d c) = whole m d (m (oLoc d)) :=
  bigSep_univ_of_subsingleton (0 : Fin 1)
theorem dn0_eq (d : Dev nD) : (bigSep Finset.univ fun c : Fin ((K (F := F)).nCore 0) => (P m).dn 0 d c) = whole m d (out m d) :=
  bigSep_univ_of_subsingleton (0 : Fin 1)

omit [FloatOps F] in
theorem hIn : (opIn (F := F)).bufs ⊆ arrs := show ({a', t'} : Finset (DevRef τ sig)) ⊆ arrs by decide
omit [FloatOps F] in
theorem hOut : (opOut (F := F)).bufs ⊆ arrs := show ({o', r'} : Finset (DevRef τ sig)) ⊆ arrs by decide

/-- @main on device `d`'s TensorCore: the flattening, the call, the reshape of its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := arrs) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hc, Ht, Ho, Hr⟩
  iapply ((K (F := F)).wp_run (D (F := F)) 𝒱 (EH := EH) (P := P m) κ d 0) $$ [Hst Hc Ht Ho Hb Ha Hr Hts]
  isplitr; · iexact Hctx
  isplitl [Hst]; · iexact Hst
  isplitl [Hc Ht Ho]
  · rw [st0_eq]
    iframe Ht Hc Ho
  iintro ⟨Hst, Hdn⟩
  ihave Hdn' := (Entails.of_eq (dn0_eq m d)) $$ Hdn
  icases Hdn' with ⟨Ht, Hc, Ho⟩
  iapply (wp_hlo_within 𝒱 (SparseCore.T d) none Set.univ (op := opOut) (S := arrs) hOut (V := V2 m d)) $$ [Hb Ha Hc Ht Ho Hr]
  · isplitl [Hb]; · iexact Hb
    rw [held_V2]
    iframe Ha Hc Ht Ho Hr
  iintro ⟨Hb, Hheld⟩
  rw [wp_ret]; imodintro; imodintro
  isplitl [Hst]; · iexact Hst
  isplitl [Hheld]
  · iapply (held_end m d); iexact Hheld
  isplitl [Hb] <;> iassumption

/-- What the claims read of device `d`'s final state. -/
def fq (d : Dev nD) (s' : Phys nD τ sig (Elt F)) : Prop :=
  s'.mem.mem (aLoc d) = m (aLoc d) ∧ s'.mem.mem (cLoc d) = m (cLoc d) ∧ s'.mem.mem (rLoc d) = res m d

omit [FloatOps F] in
/-- An array held whole is what the memory holds. -/
theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨Ha, Hc, Hr⟩, HSI⟩
  ihave H := (read_whole s' _ _) $$ [HSI Ha]
  · isplitl [Ha] <;> iassumption
  icases H with ⟨%ha, HSI⟩
  ihave H := (read_whole s' _ _) $$ [HSI Hc]
  · isplitl [Hc] <;> iassumption
  icases H with ⟨%hc, HSI⟩
  ihave H := (read_whole s' _ _) $$ [HSI Hr]
  · isplitl [Hr] <;> iassumption
  icases H with ⟨%hr, HSI⟩
  ipureintro; exact ⟨ha, hc, hr⟩

/-! ## The program's run -/

/-- At the end the tokens and the counts are as given, the result holds the masked tokens, and every counter is zero. -/
def QC : PUnit × MemSt nD τ sig (Elt F) → Prop := fun r =>
  (∀ d : Dev nD, r.2.mem (aLoc d) = m (aLoc d) ∧ r.2.mem (cLoc d) = m (cLoc d) ∧ r.2.mem (rLoc d) = res m d) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Equation.lean ====
/-
  The values meet: the kernel's result — flatten, mask, reshape back — is the reference's term, element by element.
-/
module

public import proofs.«01_k».proof.Proof.Rows
public import proofs.«01_k».proof.Proof.Gen.ReferenceIdeal.Run

@[expose] public section

noncomputable section

namespace Cert.Proof.Equation

open Cert.ReferenceIdeal Cert.ReferenceIdeal.Gen Cert.Proof.Spec Cert.Proof.Rows
open Idealize.ShloMosaic

/-- The index of row `i`, lane `j`. -/
abbrev cell (i j : ℕ) (hi : i < 128) (hj : j < 16) : S128x16.Idx := fun a => match a with | 0 => ⟨i, hi⟩ | 1 => ⟨j, hj⟩

/-- The flat array numbers row `i`, lane `j` as element `16 i + j`. -/
theorem cell_flat (x : S128x16.Idx) (n : ℕ) (hn : n < 2048) (h : n = 16 * (x 0).val + (x 1).val) :
    (Cert.KernelIdeal.S2048.rowMajor (tokIx n hn) : ℕ) = S128x16.rowMajor x := by
  rw [show Cert.KernelIdeal.S2048.rowMajor (tokIx n hn) = n from Shape.rowMajor_val_one _,
    show (S128x16.rowMajor x : ℕ) = (x 0).val * 16 + (x 1).val from Shape.rowMajor_val_two _]
  omega

/-- The reference's lane numbers, spread over the rows. -/
theorem lanes_at (x : S128x16.Idx) :
    broadcastInDim S128x16 ![0, 1] bcast_S1x16_S128x16_0_1 (broadcastInDim S1x16 ![1] bcast_S16_S1x16_1 (iotaInDim S16 32 0)) x
      = BitVec.ofNat 32 (x 1).val := rfl

/-- The reference's counts, spread over the lanes. -/
theorem counts_at (C : IVec S128 32) (x : S128x16.Idx) (h0 : (x 0).val < 128) :
    broadcastInDim S128x16 ![0, 1] bcast_S128x1_S128x16_0_1 (broadcastInDim S128x1 ![0] bcast_S128_S128x1_0 C) x = C (cntIx (x 0).val h0) :=
  congrArg C (funext fun a => match a with | 0 => rfl)

/-- The reference's first token, spread over the whole array. -/
theorem first_at (A : IVec S128x16 32) (x : S128x16.Idx) :
    broadcastInDim S128x16 ![] bcast_S_S128x16 (shapeCast S_ (extractStridedSlice S1x1 ![0, 0] A slices_S128x16_S1x1_0_0) shapeCasts_S1x1_S_) x
      = A (cell 0 0 (by decide) (by decide)) :=
  have e (y : Fin 1) : 0 = 0 + y.val := by omega
  extractStridedSlice_apply _ A slices_S128x16_S1x1_0_0 _ _ fun a => match a with | 0 => e _ | 1 => e _

/-- The kernel's result at tokens `A` and counts `C` is the reference's. -/
theorem result_eq (A : IVec S128x16 32) (C : IVec S128 32) (h : S128x16.ShapeCasts Cert.KernelIdeal.S2048) (h' : Cert.KernelIdeal.S2048.ShapeCasts S128x16) :
    shapeCast S128x16 (masked (shapeCast Cert.KernelIdeal.S2048 A h) C) h'
      = select (cmpi .slt (broadcastInDim S128x16 ![0, 1] bcast_S1x16_S128x16_0_1 (broadcastInDim S1x16 ![1] bcast_S16_S1x16_1 (iotaInDim S16 32 0)))
            (broadcastInDim S128x16 ![0, 1] bcast_S128x1_S128x16_0_1 (broadcastInDim S128x1 ![0] bcast_S128_S128x1_0 C)))
          (select (cmpi .eq A (broadcastInDim S128x16 ![] bcast_S_S128x16 (constantI S_ 32 0#32)))
            (broadcastInDim S128x16 ![] bcast_S_S128x16 (shapeCast _ (extractStridedSlice S1x1 ![0, 0] A slices_S128x16_S1x1_0_0) shapeCasts_S1x1_S_)) A)
          (broadcastInDim S128x16 ![] bcast_S_S128x16 (constantI S_ 32 0#32)) := by
  funext x
  have h0 : (x 0).val < 128 := (x 0).isLt
  have h1 : (x 1).val < 16 := (x 1).isLt
  have hn : 16 * (x 0).val + (x 1).val < 2048 := by omega
  rw [shapeCast_apply _ h' x (tokIx _ hn) (cell_flat x _ hn rfl),
    masked_at _ C (n := 16 * (x 0).val + (x 1).val) (q := (x 0).val) (r := (x 1).val) (hn := hn) (hq := h0) rfl (by omega) (by omega),
    shapeCast_apply A h (tokIx _ hn) x (cell_flat x _ hn rfl).symm,
    shapeCast_apply A h (tokIx 0 (by decide)) (cell 0 0 (by decide) (by decide)) (cell_flat _ 0 (by decide) rfl).symm]
  refine (select_eq_keep _ _ _ _).symm.trans ?_
  rw [← lanes_at x, ← counts_at C x h0, ← first_at A x]
  rfl

end Cert.Proof.Equation

end
-- ==== Proof.lean ====
/-
  The certificate: the program leaves its arguments and every counter as it found them, at words and at exact values;
  so does the reference; and the two return the same arrays.
-/
module

public import proofs.«01_k».proof.Defs
public import proofs.«01_k».proof.Proof.Gen.Kernel
public import proofs.«01_k».proof.Proof.Gen.ReferenceIdeal
public import proofs.«01_k».proof.Proof.Launch
public import proofs.«01_k».proof.Proof.Equation
public import Idealize.ShloMosaic.Lib.Quiescent

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel at words: its text is the one the run is stated for. -/
theorem frame_kernel : Cert.quiescent_Kernel := fun m ρ _ =>
  (θ_run Cert.KernelIdeal.defs _ _).mono (fun _ h => ⟨fun c => ⟨(h.1 c).1, (h.1 c).2.1⟩, h.2⟩)
    (Launch.run_main (F := Bits) m ρ)

/-- The kernel at exact values. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Launch.run_main (F := Ideal) m ρ)

/-- The reference, which has no semaphore. -/
theorem frame_reference : Cert.quiescent_ReferenceIdeal := fun m ρ _ =>
  (θ_run Cert.ReferenceIdeal.defs _ _).mono
    (fun r h => ⟨fun c => ⟨(h c).2.2.1, (h c).2.2.2⟩, sem_eq_zero_of_no_sems rfl r.2⟩)
    (Cert.ReferenceIdeal.Value.run m ρ)

/-- Both return the masked tokens and the counts. -/
theorem same_results : Cert.algebraic_KernelIdeal_ReferenceIdeal := fun m ρ m' ρ' _ hm =>
  ⟨fun c => Launch.res m c, fun c => m (Tile.cLoc c),
    (θ_run Cert.KernelIdeal.defs _ _).mono
      (fun _ h c => ⟨(h.1 c).2.2, (h.1 c).2.1, (h.1 c).1, (h.1 c).2.1⟩) (Launch.run_main (F := Ideal) m ρ),
    (θ_run Cert.ReferenceIdeal.defs _ _).mono
      (fun _ h c => ⟨by
          refine (h c).1.trans ?_
          rw [(hm c).1, (hm c).2]
          exact (Equation.result_eq _ _ _ _).symm,
        (h c).2.1.trans (hm c).2, (h c).2.2.1, (h c).2.2.2⟩)
      (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_reference, trivial, same_results⟩

end Cert.Proof

end
